-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_heap [hPre_finite_heap : Cert.Pre_finite_heap.Facts] (m : (ℓ : Loc Cert.KernelIdeal.nD Cert.KernelIdeal.τ Cert.KernelIdeal.sig) → Buf (Elt Ideal) ℓ) : Prop :=
  ∀ c : Dev Cert.KernelIdeal.nD,
    (Cert.Pre_finite_heap.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_heap [hPre_finite_heap : Cert.Pre_finite_heap.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_heap.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_heap [hKernelIdeal : Cert.KernelIdeal.Facts] [hPre_finite_heap : Cert.Pre_finite_heap.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_heap m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_heap [hReferenceIdeal : Cert.ReferenceIdeal.Facts] [hPre_finite_heap : Cert.Pre_finite_heap.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_heap m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_finite_heap [hKernelIdeal : Cert.KernelIdeal.Facts] [hReferenceIdeal : Cert.ReferenceIdeal.Facts] [hPre_finite_heap : Cert.Pre_finite_heap.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_heap m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_heap : Cert.Pre_finite_heap.Facts),
    quiescent_Kernel (hKernel := hKernel)
    ∧ quiescent_KernelIdeal (hKernelIdeal := hKernelIdeal)
    ∧ quiescent_KernelIdeal_pre_finite_heap (hKernelIdeal := hKernelIdeal) (hPre_finite_heap := hPre_finite_heap)
    ∧ quiescent_ReferenceIdeal (hReferenceIdeal := hReferenceIdeal)
    ∧ quiescent_ReferenceIdeal_pre_finite_heap (hReferenceIdeal := hReferenceIdeal) (hPre_finite_heap := hPre_finite_heap)
    ∧ preserves_Kernel_KernelIdeal
    ∧ algebraic_KernelIdeal_ReferenceIdeal_pre_finite_heap (hKernelIdeal := hKernelIdeal) (hReferenceIdeal := hReferenceIdeal) (hPre_finite_heap := hPre_finite_heap)
-- ==== Pre_finite_heap.lean ====
abbrev S1024x64 : Shape := ⟨2, ![1024, 64]⟩
abbrev S16383x64 : Shape := ⟨2, ![16383, 64]⟩
abbrev S16383 : Shape := ⟨1, ![16383]⟩
abbrev S_ : Shape := ⟨0, ![]⟩

class Facts : Prop where
  bcast_S_S16383 : S_.BroadcastsInDim S16383 (![] : Fin 0 → Fin S16383.rank)
  reducesTo_S16383_S_d0 : S16383.ReducesTo [0] S_
  h_S_ : 0 < S_.numel
  bcast_S_S1024x64 : S_.BroadcastsInDim S1024x64 (![] : Fin 0 → Fin S1024x64.rank)
  reducesTo_S1024x64_S_d0_1 : S1024x64.ReducesTo [0, 1] S_
  bcast_S_S16383x64 : S_.BroadcastsInDim S16383x64 (![] : Fin 0 → Fin S16383x64.rank)
  reducesTo_S16383x64_S_d0_1 : S16383x64.ReducesTo [0, 1] S_

variable [Facts]

def fn_part1 {F : FTy → Type} [FloatOps F] (main_arg1 : FVec F S16383x64 .f32) (main_v14 : IVec S_ 1) (main_v17 : IVec S1024x64 1) : IVec S_ 1 :=
  let main_c_4 : IVec S_ 1 := constantI S_ 1 1#1
  let main_v18 : IVec S_ 1 := (fun x v => Host.reduce IntOp.andi x v reducesTo_S1024x64_S_d0_1 h_S_) main_v17 main_c_4
  let main_v19 : IVec S_ 1 := andi main_v14 main_v18
  let main_v20 : FVec F S16383x64 .f32 := Host.absf main_arg1
  let main_cst_5 : FVec F S_ .f32 := constant S_ .f32 0x7F800000#32
  let main_v21 : FVec F S16383x64 .f32 := broadcastInDim S16383x64 ![] bcast_S_S16383x64 main_cst_5
  let main_v22 : IVec S16383x64 1 := cmpf .olt main_v20 main_v21
  let main_c_6 : IVec S_ 1 := constantI S_ 1 1#1
  let main_v23 : IVec S_ 1 := (fun x v => Host.reduce IntOp.andi x v reducesTo_S16383x64_S_d0_1 h_S_) main_v22 main_c_6
  let main_v24 : IVec S_ 1 := andi main_v19 main_v23
  main_v24

def fn {F : FTy → Type} [FloatOps F] (main_arg0 : FVec F S1024x64 .f32) (main_arg1 : FVec F S16383x64 .f32) (main_arg2 : IVec S16383 32) (main_arg3 : IVec S16383 32) (main_arg4 : IVec S16383 32) : IVec S_ 1 :=
  let main_v0 : IVec S16383 32 := iotaInDim S16383 32 0
  let main_v1 : IVec S16383 1 := cmpi .eq main_arg2 main_v0
  let main_c : IVec S_ 32 := constantI S_ 32 2#32
  let main_v2 : IVec S16383 32 := broadcastInDim S16383 ![] bcast_S_S16383 main_c
  let main_v3 : IVec S16383 32 := muli main_v2 main_v0
  let main_c_0 : IVec S_ 32 := constantI S_ 32 1#32
  let main_v4 : IVec S16383 32 := broadcastInDim S16383 ![] bcast_S_S16383 main_c_0
  let main_v5 : IVec S16383 32 := addi main_v3 main_v4
  let main_v6 : IVec S16383 1 := cmpi .eq main_arg3 main_v5
  let main_v7 : IVec S16383 1 := andi main_v1 main_v6
  let main_c_1 : IVec S_ 32 := constantI S_ 32 2#32
  let main_v8 : IVec S16383 32 := broadcastInDim S16383 ![] bcast_S_S16383 main_c_1
  let main_v9 : IVec S16383 32 := muli main_v8 main_v0
  let main_c_2 : IVec S_ 32 := constantI S_ 32 2#32
  let main_v10 : IVec S16383 32 := broadcastInDim S16383 ![] bcast_S_S16383 main_c_2
  let main_v11 : IVec S16383 32 := addi main_v9 main_v10
  let main_v12 : IVec S16383 1 := cmpi .eq main_arg4 main_v11
  let main_v13 : IVec S16383 1 := andi main_v7 main_v12
  let main_c_3 : IVec S_ 1 := constantI S_ 1 1#1
  let main_v14 : IVec S_ 1 := (fun x v => Host.reduce IntOp.andi x v reducesTo_S16383_S_d0 h_S_) main_v13 main_c_3
  let main_v15 : FVec F S1024x64 .f32 := Host.absf main_arg0
  let main_cst : FVec F S_ .f32 := constant S_ .f32 0x7F800000#32
  let main_v16 : FVec F S1024x64 .f32 := broadcastInDim S1024x64 ![] bcast_S_S1024x64 main_cst
  let main_v17 : IVec S1024x64 1 := cmpf .olt main_v15 main_v16
  fn_part1 (F := F) main_arg1 main_v14 main_v17
-- ==== Kernel.lean ====
abbrev S1024x64 : Shape := ⟨2, ![1024, 64]⟩
abbrev S16383x64 : Shape := ⟨2, ![16383, 64]⟩
abbrev S16383 : Shape := ⟨1, ![16383]⟩
abbrev S_ : Shape := ⟨0, ![]⟩
abbrev S1x64 : Shape := ⟨2, ![1, 64]⟩
abbrev S16384x64 : Shape := ⟨2, ![16384, 64]⟩
abbrev S1024x32767 : Shape := ⟨2, ![1024, 32767]⟩
abbrev S512x64 : Shape := ⟨2, ![512, 64]⟩
abbrev S2048x64 : Shape := ⟨2, ![2048, 64]⟩
abbrev S8x64 : Shape := ⟨2, ![8, 64]⟩
abbrev S512x4096 : Shape := ⟨2, ![512, 4096]⟩
abbrev S4096x64 : Shape := ⟨2, ![4096, 64]⟩
abbrev S2047x64 : Shape := ⟨2, ![2047, 64]⟩
abbrev S2048x1x64 : Shape := ⟨3, ![2048, 1, 64]⟩
abbrev S2048x2x64 : Shape := ⟨3, ![2048, 2, 64]⟩
abbrev S1024x1x64 : Shape := ⟨3, ![1024, 1, 64]⟩
abbrev S1024x4x64 : Shape := ⟨3, ![1024, 4, 64]⟩
abbrev S64x4096 : Shape := ⟨2, ![64, 4096]⟩

abbrev nBuf : Space → Nat
  | .hbm => 9
  | .vmem => 12
  | .smem => 0
  | _ => 0

abbrev bufTy : (tb : Table) → Fin (tcTables nBuf tb) → BufTy
  | .hbm, ⟨0, _⟩ => ⟨S1024x64, .f32⟩
  | .hbm, ⟨1, _⟩ => ⟨S16383x64, .f32⟩
  | .hbm, ⟨2, _⟩ => ⟨S16383, .i32⟩
  | .hbm, ⟨3, _⟩ => ⟨S16383, .i32⟩
  | .hbm, ⟨4, _⟩ => ⟨S16383, .i32⟩
  | .hbm, ⟨5, _⟩ => ⟨S_, .f32⟩
  | .hbm, ⟨6, _⟩ => ⟨S1x64, .f32⟩
  | .hbm, ⟨7, _⟩ => ⟨S16384x64, .f32⟩
  | .hbm, ⟨8, _⟩ => ⟨S1024x32767, .f32⟩
  | .local _ .vmem, ⟨0, _⟩ => ⟨S512x64, .f32⟩
  | .local _ .vmem, ⟨1, _⟩ => ⟨S512x64, .f32⟩
  | .local _ .vmem, ⟨2, _⟩ => ⟨S2048x64, .f32⟩
  | .local _ .vmem, ⟨3, _⟩ => ⟨S2048x64, .f32⟩
  | .local _ .vmem, ⟨4, _⟩ => ⟨S8x64, .f32⟩
  | .local _ .vmem, ⟨5, _⟩ => ⟨S8x64, .f32⟩
  | .local _ .vmem, ⟨6, _⟩ => ⟨S1024x64, .f32⟩
  | .local _ .vmem, ⟨7, _⟩ => ⟨S1024x64, .f32⟩
  | .local _ .vmem, ⟨8, _⟩ => ⟨S512x4096, .f32⟩
  | .local _ .vmem, ⟨9, _⟩ => ⟨S512x4096, .f32⟩
  | .local _ .vmem, ⟨10, _⟩ => ⟨S4096x64, .f32⟩
  | .local _ .vmem, ⟨11, _⟩ => ⟨S4096x64, .f32⟩
  | _, _ => ⟨S1024x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg0 c1_i32
  let c256_i32 : BitVec 32 := 256#32
  let v1 : BitVec 32 := Scalar.muli c256_i32 v0
  let c2047_i32 : BitVec 32 := 2047#32
  let v2 : BitVec 32 := Scalar.minsi v1 c2047_i32
  let c0_i32 : BitVec 32 := 0#32
  let c0_i32_0 : BitVec 32 := 0#32
  ![v2.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S8x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S512x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== ReferenceIdeal.lean ====
abbrev S1024x64 : Shape := ⟨2, ![1024, 64]⟩
abbrev S16383x64 : Shape := ⟨2, ![16383, 64]⟩
abbrev S16383 : Shape := ⟨1, ![16383]⟩
abbrev S64x16383 : Shape := ⟨2, ![64, 16383]⟩
abbrev S1024x16383 : Shape := ⟨2, ![1024, 16383]⟩
abbrev S_ : Shape := ⟨0, ![]⟩
abbrev S1024x32767 : Shape := ⟨2, ![1024, 32767]⟩
abbrev S16383x1 : Shape := ⟨2, ![16383, 1]⟩
abbrev S1 : Shape := ⟨1, ![1]⟩
abbrev S1x1 : Shape := ⟨2, ![1, 1]⟩

abbrev nBuf : Space → Nat
  | .hbm => 107
  | .vmem => 0
  | .smem => 0
  | _ => 0

abbrev bufTy : (tb : Table) → Fin (tcTables nBuf tb) → BufTy
  | .hbm, ⟨0, _⟩ => ⟨S1024x64, .f32⟩
  | .hbm, ⟨1, _⟩ => ⟨S16383x64, .f32⟩
  | .hbm, ⟨2, _⟩ => ⟨S16383, .i32⟩
  | .hbm, ⟨3, _⟩ => ⟨S16383, .i32⟩
  | .hbm, ⟨4, _⟩ => ⟨S16383, .i32⟩
  | .hbm, ⟨5, _⟩ => ⟨S64x16383, .f32⟩
  | .hbm, ⟨6, _⟩ => ⟨S1024x16383, .f32⟩
  | .hbm, ⟨7, _⟩ => ⟨S_, .f32⟩
  | .hbm, ⟨8, _⟩ => ⟨S1024x32767, .f32⟩
  | .hbm, ⟨9, _⟩ => ⟨S_, .i32⟩
  | .hbm, ⟨10, _⟩ => ⟨S16383, .i32⟩
  | .hbm, ⟨11, _⟩ => ⟨S16383, .i1⟩
  | .hbm, ⟨12, _⟩ => ⟨S_, .i32⟩
  | .hbm, ⟨13, _⟩ => ⟨S16383, .i32⟩
  | .hbm, ⟨14, _⟩ => ⟨S16383, .i32⟩
  | .hbm, ⟨15, _⟩ => ⟨S16383, .i32⟩
  | .hbm, ⟨16, _⟩ => ⟨S16383x1, .i32⟩
  | .hbm, ⟨17, _⟩ => ⟨S1, .i32⟩
  | .hbm, ⟨18, _⟩ => ⟨S_, .i32⟩
  | .hbm, ⟨19, _⟩ => ⟨S16383x1, .i32⟩
  | .hbm, ⟨20, _⟩ => ⟨S16383x1, .i1⟩
  | .hbm, ⟨21, _⟩ => ⟨S1x1, .i32⟩
  | .hbm, ⟨22, _⟩ => ⟨S16383x1, .i32⟩
  | .hbm, ⟨23, _⟩ => ⟨S16383x1, .i1⟩
  | .hbm, ⟨24, _⟩ => ⟨S16383x1, .i1⟩
  | .hbm, ⟨25, _⟩ => ⟨S_, .i1⟩
  | .hbm, ⟨26, _⟩ => ⟨S16383, .i1⟩
  | .hbm, ⟨27, _⟩ => ⟨S1024x16383, .f32⟩
  | .hbm, ⟨28, _⟩ => ⟨S1024x16383, .i1⟩
  | .hbm, ⟨29, _⟩ => ⟨S_, .f32⟩
  | .hbm, ⟨30, _⟩ => ⟨S1024x16383, .f32⟩
  | .hbm, ⟨31, _⟩ => ⟨S1024x16383, .f32⟩
  | .hbm, ⟨32, _⟩ => ⟨S_, .i32⟩
  | .hbm, ⟨33, _⟩ => ⟨S16383, .i32⟩
  | .hbm, ⟨34, _⟩ => ⟨S16383, .i1⟩
  | .hbm, ⟨35, _⟩ => ⟨S_, .i32⟩
  | .hbm, ⟨36, _⟩ => ⟨S16383, .i32⟩
  | .hbm, ⟨37, _⟩ => ⟨S16383, .i32⟩
  | .hbm, ⟨38, _⟩ => ⟨S16383, .i32⟩
  | .hbm, ⟨39, _⟩ => ⟨S16383x1, .i32⟩
  | .hbm, ⟨40, _⟩ => ⟨S1, .i32⟩
  | .hbm, ⟨41, _⟩ => ⟨S_, .i32⟩
  | .hbm, ⟨42, _⟩ => ⟨S16383x1, .i32⟩
  | .hbm, ⟨43, _⟩ => ⟨S16383x1, .i1⟩
  | .hbm, ⟨44, _⟩ => ⟨S1x1, .i32⟩
  | .hbm, ⟨45, _⟩ => ⟨S16383x1, .i32⟩
  | .hbm, ⟨46, _⟩ => ⟨S16383x1, .i1⟩
  | .hbm, ⟨47, _⟩ => ⟨S16383x1, .i1⟩
  | .hbm, ⟨48, _⟩ => ⟨S_, .i1⟩
  | .hbm, ⟨49, _⟩ => ⟨S16383, .i1⟩
  | .hbm, ⟨50, _⟩ => ⟨S1024x16383, .f32⟩
  | .hbm, ⟨51, _⟩ => ⟨S1024x16383, .i1⟩
  | .hbm, ⟨52, _⟩ => ⟨S_, .f32⟩
  | .hbm, ⟨53, _⟩ => ⟨S1024x16383, .f32⟩
  | .hbm, ⟨54, _⟩ => ⟨S1024x16383, .f32⟩
  | .hbm, ⟨55, _⟩ => ⟨S1024x16383, .f32⟩
  | .hbm, ⟨56, _⟩ => ⟨S_, .i32⟩
  | .hbm, ⟨57, _⟩ => ⟨S16383, .i32⟩
  | .hbm, ⟨58, _⟩ => ⟨S16383, .i1⟩
  | .hbm, ⟨59, _⟩ => ⟨S_, .i32⟩
  | .hbm, ⟨60, _⟩ => ⟨S16383, .i32⟩
  | .hbm, ⟨61, _⟩ => ⟨S16383, .i32⟩
  | .hbm, ⟨62, _⟩ => ⟨S16383, .i32⟩
  | .hbm, ⟨63, _⟩ => ⟨S16383x1, .i32⟩
  | .hbm, ⟨64, _⟩ => ⟨S1024x32767, .f32⟩
  | .hbm, ⟨65, _⟩ => ⟨S_, .i32⟩
  | .hbm, ⟨66, _⟩ => ⟨S16383, .i32⟩
  | .hbm, ⟨67, _⟩ => ⟨S16383, .i1⟩
  | .hbm, ⟨68, _⟩ => ⟨S_, .i32⟩
  | .hbm, ⟨69, _⟩ => ⟨S16383, .i32⟩
  | .hbm, ⟨70, _⟩ => ⟨S16383, .i32⟩
  | .hbm, ⟨71, _⟩ => ⟨S16383, .i32⟩
  | .hbm, ⟨72, _⟩ => ⟨S16383x1, .i32⟩
  | .hbm, ⟨73, _⟩ => ⟨S1, .i32⟩
  | .hbm, ⟨74, _⟩ => ⟨S_, .i32⟩
  | .hbm, ⟨75, _⟩ => ⟨S16383x1, .i32⟩
  | .hbm, ⟨76, _⟩ => ⟨S16383x1, .i1⟩
  | .hbm, ⟨77, _⟩ => ⟨S1x1, .i32⟩
  | .hbm, ⟨78, _⟩ => ⟨S16383x1, .i32⟩
  | .hbm, ⟨79, _⟩ => ⟨S16383x1, .i1⟩
  | .hbm, ⟨80, _⟩ => ⟨S16383x1, .i1⟩
  | .hbm, ⟨81, _⟩ => ⟨S_, .i1⟩
  | .hbm, ⟨82, _⟩ => ⟨S16383, .i1⟩
  | .hbm, ⟨83, _⟩ => ⟨S1024x16383, .f32⟩
  | .hbm, ⟨84, _⟩ => ⟨S1024x16383, .i1⟩
  | .hbm, ⟨85, _⟩ => ⟨S_, .f32⟩
  | .hbm, ⟨86, _⟩ => ⟨S1024x16383, .f32⟩
  | .hbm, ⟨87, _⟩ => ⟨S1024x16383, .f32⟩
  | .hbm, ⟨88, _⟩ => ⟨S1024x16383, .f32⟩
  | .hbm, ⟨89, _⟩ => ⟨S1024x16383, .f32⟩
  | .hbm, ⟨90, _⟩ => ⟨S_, .i32⟩
  | .hbm, ⟨91, _⟩ => ⟨S16383, .i32⟩
  | .hbm, ⟨92, _⟩ => ⟨S16383, .i1⟩
  | .hbm, ⟨93, _⟩ => ⟨S_, .i32⟩
  | .hbm, ⟨94, _⟩ => ⟨S16383, .i32⟩
  | .hbm, ⟨95, _⟩ => ⟨S16383, .i32⟩
  | .hbm, ⟨96, _⟩ => ⟨S16383, .i32⟩
  | .hbm, ⟨97, _⟩ => ⟨S16383x1, .i32⟩
  | .hbm, ⟨98, _⟩ => ⟨S1024x32767, .f32⟩
  | .hbm, ⟨99, _⟩ => ⟨S_, .f32⟩
  | .hbm, ⟨100, _⟩ => ⟨S_, .f32⟩
  | .hbm, ⟨101, _⟩ => ⟨S_, .f32⟩
  | .hbm, ⟨102, _⟩ => ⟨S1024x32767, .f32⟩
  | .hbm, ⟨103, _⟩ => ⟨S1024x32767, .f32⟩
  | .hbm, ⟨104, _⟩ => ⟨S_, .f32⟩
  | .hbm, ⟨105, _⟩ => ⟨S1024x32767, .f32⟩
  | .hbm, ⟨106, _⟩ => ⟨S1024x32767, .f32⟩
  | _, _ => ⟨S1024x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_call0_c : Ref sig .tc := ⟨.hbm, 9, rfl⟩
abbrev main_call0_v0 : Ref sig .tc := ⟨.hbm, 10, rfl⟩
abbrev main_call0_v1 : Ref sig .tc := ⟨.hbm, 11, rfl⟩
abbrev main_call0_c_0 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_v5 : Ref sig .tc := ⟨.hbm, 16, rfl⟩
abbrev main_call0_c_1 : Ref sig .tc := ⟨.hbm, 17, rfl⟩
abbrev main_call0_c_2 : Ref sig .tc := ⟨.hbm, 18, rfl⟩
abbrev main_call0_v6 : Ref sig .tc := ⟨.hbm, 19, rfl⟩
abbrev main_call0_v7 : Ref sig .tc := ⟨.hbm, 20, rfl⟩
abbrev main_call0_v8 : Ref sig .tc := ⟨.hbm, 21, rfl⟩
abbrev main_call0_v9 : Ref sig .tc := ⟨.hbm, 22, rfl⟩
abbrev main_call0_v10 : Ref sig .tc := ⟨.hbm, 23, rfl⟩
abbrev main_call0_v11 : Ref sig .tc := ⟨.hbm, 24, rfl⟩
abbrev main_call0_c_3 : Ref sig .tc := ⟨.hbm, 25, rfl⟩
abbrev main_call0_v12 : Ref sig .tc := ⟨.hbm, 26, rfl⟩
abbrev main_call0_v13 : Ref sig .tc := ⟨.hbm, 27, rfl⟩
abbrev main_call0_v14 : Ref sig .tc := ⟨.hbm, 28, rfl⟩
abbrev main_call0_cst : Ref sig .tc := ⟨.hbm, 29, rfl⟩
abbrev main_call0_v15 : Ref sig .tc := ⟨.hbm, 30, rfl⟩
abbrev main_v3 : Ref sig .tc := ⟨.hbm, 31, rfl⟩
abbrev main_call1_c : Ref sig .tc := ⟨.hbm, 32, rfl⟩
abbrev main_call1_v0 : Ref sig .tc := ⟨.hbm, 33, rfl⟩
abbrev main_call1_v1 : Ref sig .tc := ⟨.hbm, 34, rfl⟩
abbrev main_call1_c_0 : Ref sig .tc := ⟨.hbm, 35, rfl⟩
abbrev main_call1_v2 : Ref sig .tc := ⟨.hbm, 36, rfl⟩
abbrev main_call1_v3 : Ref sig .tc := ⟨.hbm, 37, rfl⟩
abbrev main_call1_v4 : Ref sig .tc := ⟨.hbm, 38, rfl⟩
abbrev main_call1_v5 : Ref sig .tc := ⟨.hbm, 39, rfl⟩
abbrev main_call1_c_1 : Ref sig .tc := ⟨.hbm, 40, rfl⟩
abbrev main_call1_c_2 : Ref sig .tc := ⟨.hbm, 41, rfl⟩
abbrev main_call1_v6 : Ref sig .tc := ⟨.hbm, 42, rfl⟩
abbrev main_call1_v7 : Ref sig .tc := ⟨.hbm, 43, rfl⟩
abbrev main_call1_v8 : Ref sig .tc := ⟨.hbm, 44, rfl⟩
abbrev main_call1_v9 : Ref sig .tc := ⟨.hbm, 45, rfl⟩
abbrev main_call1_v10 : Ref sig .tc := ⟨.hbm, 46, rfl⟩
abbrev main_call1_v11 : Ref sig .tc := ⟨.hbm, 47, rfl⟩
abbrev main_call1_c_3 : Ref sig .tc := ⟨.hbm, 48, rfl⟩
abbrev main_call1_v12 : Ref sig .tc := ⟨.hbm, 49, rfl⟩
abbrev main_call1_v13 : Ref sig .tc := ⟨.hbm, 50, rfl⟩
abbrev main_call1_v14 : Ref sig .tc := ⟨.hbm, 51, rfl⟩
abbrev main_call1_cst : Ref sig .tc := ⟨.hbm, 52, rfl⟩
abbrev main_call1_v15 : Ref sig .tc := ⟨.hbm, 53, rfl⟩
abbrev main_v4 : Ref sig .tc := ⟨.hbm, 54, rfl⟩
abbrev main_v5 : Ref sig .tc := ⟨.hbm, 55, rfl⟩
abbrev main_c : Ref sig .tc := ⟨.hbm, 56, rfl⟩
abbrev main_v6 : Ref sig .tc := ⟨.hbm, 57, rfl⟩
abbrev main_v7 : Ref sig .tc := ⟨.hbm, 58, rfl⟩
abbrev main_c_0 : Ref sig .tc := ⟨.hbm, 59, rfl⟩
abbrev main_v8 : Ref sig .tc := ⟨.hbm, 60, rfl⟩
abbrev main_v9 : Ref sig .tc := ⟨.hbm, 61, rfl⟩
abbrev main_v10 : Ref sig .tc := ⟨.hbm, 62, rfl⟩
abbrev main_v11 : Ref sig .tc := ⟨.hbm, 63, rfl⟩
abbrev main_v12 : Ref sig .tc := ⟨.hbm, 64, rfl⟩
abbrev main_call2_c : Ref sig .tc := ⟨.hbm, 65, rfl⟩
abbrev main_call2_v0 : Ref sig .tc := ⟨.hbm, 66, rfl⟩
abbrev main_call2_v1 : Ref sig .tc := ⟨.hbm, 67, rfl⟩
abbrev main_call2_c_0 : Ref sig .tc := ⟨.hbm, 68, rfl⟩
abbrev main_call2_v2 : Ref sig .tc := ⟨.hbm, 69, rfl⟩
abbrev main_call2_v3 : Ref sig .tc := ⟨.hbm, 70, rfl⟩
abbrev main_call2_v4 : Ref sig .tc := ⟨.hbm, 71, rfl⟩
abbrev main_call2_v5 : Ref sig .tc := ⟨.hbm, 72, rfl⟩
abbrev main_call2_c_1 : Ref sig .tc := ⟨.hbm, 73, rfl⟩
abbrev main_call2_c_2 : Ref sig .tc := ⟨.hbm, 74, rfl⟩
abbrev main_call2_v6 : Ref sig .tc := ⟨.hbm, 75, rfl⟩
abbrev main_call2_v7 : Ref sig .tc := ⟨.hbm, 76, rfl⟩
abbrev main_call2_v8 : Ref sig .tc := ⟨.hbm, 77, rfl⟩
abbrev main_call2_v9 : Ref sig .tc := ⟨.hbm, 78, rfl⟩
abbrev main_call2_v10 : Ref sig .tc := ⟨.hbm, 79, rfl⟩
abbrev main_call2_v11 : Ref sig .tc := ⟨.hbm, 80, rfl⟩
abbrev main_call2_c_3 : Ref sig .tc := ⟨.hbm, 81, rfl⟩
abbrev main_call2_v12 : Ref sig .tc := ⟨.hbm, 82, rfl⟩
abbrev main_call2_v13 : Ref sig .tc := ⟨.hbm, 83, rfl⟩
abbrev main_call2_v14 : Ref sig .tc := ⟨.hbm, 84, rfl⟩
abbrev main_call2_cst : Ref sig .tc := ⟨.hbm, 85, rfl⟩
abbrev main_call2_v15 : Ref sig .tc := ⟨.hbm, 86, rfl⟩
abbrev main_v13 : Ref sig .tc := ⟨.hbm, 87, rfl⟩
abbrev main_v14 : Ref sig .tc := ⟨.hbm, 88, rfl⟩
abbrev main_v15 : Ref sig .tc := ⟨.hbm, 89, rfl⟩
abbrev main_c_1 : Ref sig .tc := ⟨.hbm, 90, rfl⟩
abbrev main_v16 : Ref sig .tc := ⟨.hbm, 91, rfl⟩
abbrev main_v17 : Ref sig .tc := ⟨.hbm, 92, rfl⟩
abbrev main_c_2 : Ref sig .tc := ⟨.hbm, 93, rfl⟩
abbrev main_v18 : Ref sig .tc := ⟨.hbm, 94, rfl⟩
abbrev main_v19 : Ref sig .tc := ⟨.hbm, 95, rfl⟩
abbrev main_v20 : Ref sig .tc := ⟨.hbm, 96, rfl⟩
abbrev main_v21 : Ref sig .tc := ⟨.hbm, 97, rfl⟩
abbrev main_v22 : Ref sig .tc := ⟨.hbm, 98, rfl⟩
abbrev main_cst_3 : Ref sig .tc := ⟨.hbm, 99, rfl⟩
abbrev main_cst_4 : Ref sig .tc := ⟨.hbm, 100, rfl⟩
abbrev main_call3_v0 : Ref sig .tc := ⟨.hbm, 101, rfl⟩
abbrev main_call3_v1 : Ref sig .tc := ⟨.hbm, 102, rfl⟩
abbrev main_call3_v2 : Ref sig .tc := ⟨.hbm, 103, rfl⟩
abbrev main_call3_v3 : Ref sig .tc := ⟨.hbm, 104, rfl⟩
abbrev main_call3_v4 : Ref sig .tc := ⟨.hbm, 105, rfl⟩
abbrev main_v23 : Ref sig .tc := ⟨.hbm, 106, rfl⟩

abbrev nD : Nat := 1
abbrev τ : Topo := Topo.v7x

variable {F : FTy → Type} [FloatOps F]
-- ==== Proof.KernelBlock.lean ====
/- What one grid point of the kernel leaves in its output block and in its two carried scratch arrays, as the payloads of
   the point's input blocks. Point number t is 2 · (tile) + (row block): the even points build the two weight arrays, the
   odd points find them as the even point before left them. -/
module

public import proofs.«01_k».proof.Defs
public import proofs.«01_k».proof.Proof.Gen.KernelIdeal.Value
public import Idealize.ShloMosaic.Lib.Pipeline.ValueKit
public import Idealize.ShloMosaic.Lib.Pipeline.ReadBack

@[expose] public section

set_option maxRecDepth 16384

noncomputable section

namespace Cert.KernelIdeal.Tree

open Cert.KernelIdeal Cert.KernelIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ)

/-- The block that the kernel's body stores at a point of tile number `g`, from the rows `x` and the two weight arrays. -/
def block (g : ℕ) (x : Vec F S512x64 .f32) (w p : Vec F S4096x64 .f32) : Vec F S512x4096 .f32 :=
  k0_pay1 (iota .tc S512x4096 32 [1] iota_S512x4096_d1_w32) (k0_pay4 x w p) (Scalar.cmpi .eq (BitVec.ofNat 32 g) 0#32) 0#32

/-- An even point leaves in the output block the body's block of the weights that it has just built. -/
theorem out_even (c : Dev nD) (t : Fin cfg0.N) (h : t.val % 2 = 0) :
    (outsAt0 m c t.val t.isLt).1
      = block (grid0.coords t 0).val (iblk m c 0 t) (k0_pay2 (iblk m c 1 t) (iblk m c 2 t)) (k0_pay3 (iblk m c 3 t)) := by
  rw [outsAt0_A m c t h]
  frame_out
  rfl

/-- An even point leaves in the first scratch the weights built from its blocks of the padded matrix. -/
theorem big_even (c : Dev nD) (t : Fin cfg0.N) (h : t.val % 2 = 0) :
    (outsAt0 m c t.val t.isLt).2.1 = k0_pay2 (iblk m c 1 t) (iblk m c 2 t) := by
  rw [outsAt0_A m c t h]
  frame_out

/-- An even point leaves in the second scratch the grandparents' weights. -/
theorem par_even (c : Dev nD) (t : Fin cfg0.N) (h : t.val % 2 = 0) :
    (outsAt0 m c t.val t.isLt).2.2 = k0_pay3 (iblk m c 3 t) := by
  rw [outsAt0_A m c t h]
  frame_out

/-- An odd point leaves in the output block the body's block of the weights that the point before left. -/
theorem out_odd (c : Dev nD) (t : Fin cfg0.N) (h : ¬t.val % 2 = 0) :
    (outsAt0 m c t.val t.isLt).1
      = block (grid0.coords t 0).val (iblk m c 0 t)
          (outsAt0 m c (t.val - 1) (Nat.lt_of_le_of_lt (Nat.sub_le _ _) t.isLt)).2.1
          (outsAt0 m c (t.val - 1) (Nat.lt_of_le_of_lt (Nat.sub_le _ _) t.isLt)).2.2 := by
  rw [outsAt0_B m c t h]
  frame_out
  simp only [read_unread_whole]
  rfl

end Cert.KernelIdeal.Tree

end
-- ==== Proof.Spec.lean ====
/- The tree's membership values as one function of the points and the split vectors, with no program in sight. -/
module

public import Idealize.ShloMosaic.Lib.Pointwise
public import Idealize.ShloMosaic.PureOps.Ideal

@[expose] public section

noncomputable section

namespace Cert.TreeSpec

open Idealize.ShloMosaic

/-- The score of point `b` at split `i`: the inner product of row `b` of `X` and row `i` of `A`. -/
def score (X : (⟨2, ![1024, 64]⟩ : Shape).Idx → EReal) (A : (⟨2, ![16383, 64]⟩ : Shape).Idx → EReal)
    (b : Fin 1024) (i : Fin 16383) : EReal :=
  ∑ k : Fin 64, X (ix2 b k) * A (ix2 i k)

/-- A value clamped to the interval from zero to one. -/
def clamp (z : EReal) : EReal := min 1 (max 0 z)

/-- Every node's value at every point. The root has value one. A left child, at an odd column, has the score of the split
    above it. A right child has that score negated. The right child of a left child has the smaller of that and the score of
    the split above its parent. All are clamped. -/
def tree (X : (⟨2, ![1024, 64]⟩ : Shape).Idx → EReal) (A : (⟨2, ![16383, 64]⟩ : Shape).Idx → EReal) (b : Fin 1024) (j : Fin 32767) : EReal :=
  if h0 : j.val = 0 then 1
  else if j.val % 2 = 1 then clamp (score X A b ⟨(j.val - 1) / 2, by omega⟩)
  else if j.val % 4 = 0 then
    clamp (min (score X A b ⟨j.val / 4 - 1, by omega⟩) (-score X A b ⟨j.val / 2 - 1, by omega⟩))
  else clamp (-score X A b ⟨j.val / 2 - 1, by omega⟩)

/-- A clamped value does not change when it is first cut off at one. -/
theorem clamp_min_one (z : EReal) : clamp (min 1 z) = clamp z := by
  unfold clamp
  rcases le_total z 1 with h | h
  · rw [min_eq_right h]
  · rw [min_eq_left h, max_eq_right (zero_le_one), min_self, max_eq_right (zero_le_one.trans h), min_eq_left h]

/-- The same when a second value is in play: cutting either off at one is not seen after the clamp. -/
theorem clamp_min_one_min (z w : EReal) : clamp (min (min 1 z) w) = clamp (min z w) := by
  rw [min_assoc, clamp_min_one]

/-- One is its own clamped value. -/
theorem clamp_one : clamp 1 = 1 := by
  unfold clamp; rw [max_eq_right zero_le_one, min_self]

/-- An entry is finite: it is a real number, neither infinity. -/
def Finite {ι : Type} (x : ι → EReal) : Prop := ∀ i, ∃ r : ℝ, x i = (r : EReal)

/-- Over finite entries, the inner product with a negated vector is the negated inner product. (With both infinities among
    the terms it is not: the sum of the two infinities is minus infinity under either sign.) -/
theorem sum_mul_neg {n : ℕ} (x a : Fin n → EReal) (hx : Finite x) (ha : Finite a) :
    ∑ k, x k * (0 - a k) = -∑ k, x k * a k := by
  choose r hr using hx
  choose s hs using ha
  have e1 : ∀ k, x k * (0 - a k) = ((-(r k * s k) : ℝ) : EReal) := fun k => by
    rw [hr, hs, zero_sub, ← EReal.coe_neg, ← EReal.coe_mul, mul_neg]
  have e2 : ∀ k, x k * a k = ((r k * s k : ℝ) : EReal) := fun k => by rw [hr, hs, ← EReal.coe_mul]
  have c : ∀ f : Fin n → ℝ, ∑ k, ((f k : ℝ) : EReal) = ((∑ k, f k : ℝ) : EReal) := fun f => by
    induction (Finset.univ : Finset (Fin n)) using Finset.induction_on with
    | empty => simp
    | insert a s ha ih => rw [Finset.sum_insert ha, Finset.sum_insert ha, EReal.coe_add, ih]
  rw [Finset.sum_congr rfl fun k _ => e1 k, Finset.sum_congr rfl fun k _ => e2 k, c, c, ← EReal.coe_neg, Finset.sum_neg_distrib]

end Cert.TreeSpec

end
-- ==== Proof.KernelValue.lean ====
/- The kernel's result array after the run, index by index: the tree's values, at finite points and split vectors. -/
module

public import proofs.«01_k».proof.Proof.KernelBlock
public import proofs.«01_k».proof.Proof.Spec
public import Idealize.ShloMosaic.Lib.Tactic
public import Idealize.ShloMosaic.Lib.Claim
public import Idealize.ShloMosaic.Lib.Pipeline.ValueKit.Held

@[expose] public section

set_option maxRecDepth 16384

noncomputable section

namespace Cert.KernelIdeal.Tree

open Cert.KernelIdeal Cert.KernelIdeal.Gen Idealize.ShloMosaic Idealize.ShloMosaic.TcCoe Idealize.SL.Sem
open Idealize.ShloMosaic.Pipeline (Dat)

/-! ## The body's values at an index -/

/-- The weights of an even column are a row of the block negated, those of an odd column the next row. -/
theorem big_apply (am : Vec Ideal S2048x64 .f32) (ax : Vec Ideal S8x64 .f32) (r : Fin 4096) (k : Fin 64) :
    k0_pay2 (F := Ideal) am ax (ix2 r k)
      = if r.val % 2 = 0 then 0 - am (ix2 ⟨r.val / 2, by omega⟩ k)
        else if h : r.val / 2 + 1 < 2048 then am (ix2 ⟨r.val / 2 + 1, h⟩ k) else ax (ix2 0 k) := by
  pointwise [k0_pay2]
  by_cases h : r.val % 2 = 0
  · rw [dif_pos (by omega), if_pos h]
  · rw [dif_neg (by omega), if_neg h]
    by_cases h' : r.val / 2 < 2047
    · rw [dif_pos h', dif_pos (by omega)]
      exact congrArg (fun a => am (ix2 a k)) (Fin.ext (Nat.add_comm _ _))
    · rw [dif_neg h', dif_neg (by omega)]
      exact congrArg (fun a => ax (ix2 a k)) (Fin.ext (by show r.val / 2 - 2047 = 0; omega))

/-- The grandparents' weights: each row of the block four times. -/
theorem par_apply (ap : Vec Ideal S1024x64 .f32) (r : Fin 4096) (k : Fin 64) :
    k0_pay3 (F := Ideal) ap (ix2 r k) = ap (ix2 ⟨r.val / 4, by omega⟩ k) := by
  pointwise [k0_pay3]

/-- A column number's remainder by four, as the body computes it with signed words, is zero exactly at the multiples of four. -/
theorem rem_four (r : Fin 4096) :
    IntOp.cmpi .eq (Scalar.select (IntOp.andi (IntOp.xori
          (IntOp.cmpi .slt (IntOp.remsi .vector (BitVec.ofNat 32 r.val) (Scalar.select (Scalar.cmpi .eq 4#32 0#32) 1#32 4#32)) 0#32)
          (Scalar.cmpi .slt (Scalar.select (Scalar.cmpi .eq 4#32 0#32) 1#32 4#32) 0#32))
        (IntOp.cmpi .ne (IntOp.remsi .vector (BitVec.ofNat 32 r.val) (Scalar.select (Scalar.cmpi .eq 4#32 0#32) 1#32 4#32)) 0#32))
      (IntOp.addi (IntOp.remsi .vector (BitVec.ofNat 32 r.val) (Scalar.select (Scalar.cmpi .eq 4#32 0#32) 1#32 4#32))
        (Scalar.select (Scalar.cmpi .eq 4#32 0#32) 1#32 4#32))
      (IntOp.remsi .vector (BitVec.ofNat 32 r.val) (Scalar.select (Scalar.cmpi .eq 4#32 0#32) 1#32 4#32))) 0#32
      = if r.val % 4 = 0 then 1#1 else 0#1 := by
  revert r
  decide +kernel

/-- Whether a column is the first of the first tile, as the body computes it. -/
theorem first_column (g : Fin 8) (r : Fin 4096) :
    IntOp.andi (Scalar.cmpi .eq (BitVec.ofNat 32 g.val) 0#32) (IntOp.cmpi .eq (BitVec.ofNat 32 r.val) 0#32)
      = if g.val = 0 ∧ r.val = 0 then 1#1 else 0#1 := by
  revert g r
  decide +kernel

/-- The body's block at an index: the inner products with the weights, the smaller of the two at every fourth column,
    clamped; and one at the root's column. -/
theorem block_apply (g : Fin 8) (x : Vec Ideal S512x64 .f32) (w p : Vec Ideal S4096x64 .f32) (a : Fin 512) (r : Fin 4096) :
    block (F := Ideal) g.val x w p (ix2 a r)
      = if g.val = 0 ∧ r.val = 0 then 1
        else TreeSpec.clamp (if r.val % 4 = 0 then min (∑ k, x (ix2 a k) * p (ix2 r k)) (∑ k, x (ix2 a k) * w (ix2 r k))
          else ∑ k, x (ix2 a k) * w (ix2 r k)) := by
  pointwise [block, k0_pay1, k0_pay4]
  rw [first_column, rem_four]
  unfold TreeSpec.clamp
  split_ifs <;> rfl

/-! ## The input blocks at an index -/

variable (m : (ℓ : Loc nD τ sig) → Buf (Elt Ideal) ℓ)

/-- The split vectors behind one row of zeros, by row number. -/
def padded (A : Vec Ideal S16383x64 .f32) (n : ℕ) (k : Fin 64) : EReal :=
  if h : 1 ≤ n ∧ n ≤ 16383 then A (ix2 ⟨n - 1, by omega⟩ k) else 0

/-- Where each window's block lies, by the point's number. -/
theorem index_eq : ∀ t : Fin cfg0.N, (grid0.coords t 0).val = t.val / 2 ∧ win0_0.index t = ![t.val % 2, 0]
    ∧ win0_1.index t = ![t.val / 2, 0] ∧ win0_2.index t = ![min (256 * (t.val / 2 + 1)) 2047, 0]
    ∧ win0_3.index t = ![t.val / 2, 0] ∧ win0_4.index t = ![t.val % 2, t.val / 2] :=
  (by decide +kernel : ∀ t : Fin grid0.N, (grid0.coords t 0).val = t.val / 2 ∧ win0_0.index t = ![t.val % 2, 0]
    ∧ win0_1.index t = ![t.val / 2, 0] ∧ win0_2.index t = ![min (256 * (t.val / 2 + 1)) 2047, 0]
    ∧ win0_3.index t = ![t.val / 2, 0] ∧ win0_4.index t = ![t.val % 2, t.val / 2])

/-- The array that the kernel is launched on is the split vectors behind one row of zeros. -/
theorem entry_apply (c : Dev nD) (n : Fin 16384) (k : Fin 64) :
    (V m c main_v1 : Vec Ideal S16384x64 .f32) (ix2 n k) = padded (m ((c : Thread nD τ).loc main_arg1)) n.val k := by
  entry_read
  pointwise
  unfold padded
  by_cases h : n.val < 1
  · rw [dif_pos h, dif_neg (by omega)]
  · rw [dif_neg h, dif_pos (by omega)]

/-- A point's rows of the points' array. -/
theorem rows_apply (c : Dev nD) (t : Fin cfg0.N) (a : Fin 512) (k : Fin 64) :
    (iblk m c 0 t : Vec Ideal S512x64 .f32) (ix2 a k)
      = (m ((c : Thread nD τ).loc main_arg0) : Vec Ideal S1024x64 .f32) (ix2 ⟨512 * (t.val % 2) + a.val, by omega⟩ k) := by
  have hi := (index_eq t).2.1
  blk_ext [iblk, V_main_arg0, hi]

/-- A tile's own rows of the padded split vectors. -/
theorem own_apply (c : Dev nD) (t : Fin cfg0.N) (a : Fin 2048) (k : Fin 64) :
    (iblk m c 1 t : Vec Ideal S2048x64 .f32) (ix2 a k)
      = padded (m ((c : Thread nD τ).loc main_arg1)) (2048 * (t.val / 2) + a.val) k := by
  have hi := (index_eq t).2.2.1
  have hN := lt_of_lt_of_eq t.isLt N_0
  have e := entry_apply m c ⟨2048 * (t.val / 2) + a.val, by omega⟩ k
  rw [← e]
  blk_ext [iblk, hi]

/-- The eight padded rows after a tile's own; at the last tile, where there are none, the last eight. -/
theorem ext_apply (c : Dev nD) (t : Fin cfg0.N) (a : Fin 8) (k : Fin 64) :
    (iblk m c 2 t : Vec Ideal S8x64 .f32) (ix2 a k)
      = padded (m ((c : Thread nD τ).loc main_arg1)) (8 * min (256 * (t.val / 2 + 1)) 2047 + a.val) k := by
  have hi := (index_eq t).2.2.2.1
  have hN := lt_of_lt_of_eq t.isLt N_0
  have e := entry_apply m c ⟨8 * min (256 * (t.val / 2 + 1)) 2047 + a.val, by omega⟩ k
  rw [← e]
  blk_ext [iblk, hi]

/-- The padded rows of a tile's grandparents. -/
theorem half_apply (c : Dev nD) (t : Fin cfg0.N) (a : Fin 1024) (k : Fin 64) :
    (iblk m c 3 t : Vec Ideal S1024x64 .f32) (ix2 a k)
      = padded (m ((c : Thread nD τ).loc main_arg1)) (1024 * (t.val / 2) + a.val) k := by
  have hi := (index_eq t).2.2.2.2.1
  have hN := lt_of_lt_of_eq t.isLt N_0
  have e := entry_apply m c ⟨1024 * (t.val / 2) + a.val, by omega⟩ k
  rw [← e]
  blk_ext [iblk, hi]

/-! ## One block of the result -/

/-- A row of the padded split vectors past the zeros is the split vector before it. -/
theorem padded_succ (A : Vec Ideal S16383x64 .f32) (n : ℕ) (h : n < 16383) (k : Fin 64) :
    padded A (n + 1) k = A (ix2 ⟨n, h⟩ k) := by
  unfold padded
  rw [dif_pos (by omega)]
  rfl

/-- The body's block, its weights read from the padded split vectors, holds the tree's values of its columns. -/
theorem block_tree (X : Vec Ideal S1024x64 .f32) (A : Vec Ideal S16383x64 .f32) (hX : TreeSpec.Finite X) (hA : TreeSpec.Finite A)
    (g : Fin 8) (x : Vec Ideal S512x64 .f32) (w p : Vec Ideal S4096x64 .f32) (a : Fin 512) (r : Fin 4096) (b : Fin 1024)
    (hj : 4096 * g.val + r.val < 32767) (hx : ∀ k, x (ix2 a k) = X (ix2 b k))
    (hw : ∀ k, w (ix2 r k) = if r.val % 2 = 0 then 0 - padded A (2048 * g.val + r.val / 2) k else padded A (2048 * g.val + r.val / 2 + 1) k)
    (hp : ∀ k, p (ix2 r k) = padded A (1024 * g.val + r.val / 4) k) :
    block (F := Ideal) g.val x w p (ix2 a r) = TreeSpec.tree X A b ⟨4096 * g.val + r.val, hj⟩ := by
  rw [block_apply]
  unfold TreeSpec.tree
  by_cases h0 : g.val = 0 ∧ r.val = 0
  · rw [if_pos h0, dif_pos (by dsimp only; omega)]
  have h0' : ¬4096 * g.val + r.val = 0 := by omega
  rw [if_neg h0, dif_neg h0']
  by_cases h2 : r.val % 2 = 1
  · rw [if_neg (by omega), if_pos (by dsimp only; omega)]
    refine congrArg TreeSpec.clamp (Finset.sum_congr rfl fun k _ => ?_)
    rw [hx, hw, if_neg (by omega), padded_succ A _ (by omega)]
    exact congrArg (fun i => X (ix2 b k) * A (ix2 i k)) (Fin.ext (by dsimp only; omega))
  have hneg : ∑ k, x (ix2 a k) * w (ix2 r k)
      = -TreeSpec.score X A b ⟨(4096 * g.val + r.val) / 2 - 1, by omega⟩ := by
    rw [TreeSpec.score, ← TreeSpec.sum_mul_neg _ _ (fun k => hX _) (fun k => hA _)]
    refine Finset.sum_congr rfl fun k _ => ?_
    rw [hx, hw, if_pos (by omega), show 2048 * g.val + r.val / 2 = ((4096 * g.val + r.val) / 2 - 1) + 1 by omega,
      padded_succ A _ (by omega)]
  rw [if_neg (show ¬(4096 * g.val + r.val) % 2 = 1 by omega)]
  by_cases h4 : r.val % 4 = 0
  · rw [if_pos h4, if_pos (by dsimp only; omega), hneg]
    refine congrArg (fun s => TreeSpec.clamp (min s _)) (Finset.sum_congr rfl fun k _ => ?_)
    rw [hx, hp, show 1024 * g.val + r.val / 4 = ((4096 * g.val + r.val) / 4 - 1) + 1 by omega, padded_succ A _ (by omega)]
  · rw [if_neg h4, if_neg (by dsimp only; omega), hneg]

/-- What an even point leaves in the first scratch, by the padded split vectors, except the last row of the last tile. -/
theorem big_even_apply (c : Dev nD) (t : Fin cfg0.N) (h : t.val % 2 = 0) (r : Fin 4096) (k : Fin 64)
    (hr : 4096 * (t.val / 2) + r.val < 32767) :
    (outsAt0 m c t.val t.isLt).2.1 (ix2 r k)
      = if r.val % 2 = 0 then 0 - padded (m ((c : Thread nD τ).loc main_arg1)) (2048 * (t.val / 2) + r.val / 2) k
        else padded (m ((c : Thread nD τ).loc main_arg1)) (2048 * (t.val / 2) + r.val / 2 + 1) k := by
  rw [big_even m c t h, big_apply]
  by_cases h2 : r.val % 2 = 0
  · rw [if_pos h2, if_pos h2, own_apply]
  · rw [if_neg h2, if_neg h2]
    by_cases h3 : r.val / 2 + 1 < 2048
    · rw [dif_pos h3, own_apply]
      rfl
    · rw [dif_neg h3, ext_apply]
      exact congrArg (padded _ · k) (by show 8 * min (256 * (t.val / 2 + 1)) 2047 + 0 = _; omega)

/-- What an even point leaves in the second scratch, by the padded split vectors. -/
theorem par_even_apply (c : Dev nD) (t : Fin cfg0.N) (h : t.val % 2 = 0) (r : Fin 4096) (k : Fin 64) :
    (outsAt0 m c t.val t.isLt).2.2 (ix2 r k) = padded (m ((c : Thread nD τ).loc main_arg1)) (1024 * (t.val / 2) + r.val / 4) k := by
  rw [par_even m c t h, par_apply, half_apply]

/-- Every point leaves in the output block the body's block of its rows and of the weights that the even point of its
    tile left. -/
theorem out_eq (c : Dev nD) (t e : Fin cfg0.N) (he : e.val = 2 * (t.val / 2)) :
    (outsAt0 m c t.val t.isLt).1
      = block (t.val / 2) (iblk m c 0 t) (outsAt0 m c e.val e.isLt).2.1 (outsAt0 m c e.val e.isLt).2.2 := by
  rw [← (index_eq t).1]
  by_cases h : t.val % 2 = 0
  · obtain rfl : e = t := Fin.ext (by omega)
    rw [out_even m c e h, big_even m c e h, par_even m c e h]
  · rw [out_odd m c t h]
    have q : ∀ (n : ℕ) (hn : n < cfg0.N), n = e.val → outsAt0 m c n hn = outsAt0 m c e.val e.isLt := fun n hn hne => by
      subst hne; rfl
    rw [q _ _ (by omega)]

/-- Every point leaves in the output block the tree's values of its rows and columns, where those are the result's. -/
theorem out_tree (c : Dev nD) (hX : TreeSpec.Finite (m ((c : Thread nD τ).loc main_arg0) : Vec Ideal S1024x64 .f32))
    (hA : TreeSpec.Finite (m ((c : Thread nD τ).loc main_arg1) : Vec Ideal S16383x64 .f32)) (t : Fin cfg0.N)
    (a : Fin 512) (r : Fin 4096) (hj : 4096 * (t.val / 2) + r.val < 32767) :
    (outsAt0 m c t.val t.isLt).1 (ix2 a r)
      = TreeSpec.tree (m ((c : Thread nD τ).loc main_arg0)) (m ((c : Thread nD τ).loc main_arg1))
          ⟨512 * (t.val % 2) + a.val, by omega⟩ ⟨4096 * (t.val / 2) + r.val, hj⟩ := by
  have hN := lt_of_lt_of_eq t.isLt N_0
  have hlt : 2 * (t.val / 2) < cfg0.N := lt_of_lt_of_eq (by omega) N_0.symm
  rw [out_eq m c t ⟨2 * (t.val / 2), hlt⟩ rfl]
  have hd : 2 * (t.val / 2) / 2 = t.val / 2 := by omega
  refine block_tree _ _ hX hA ⟨t.val / 2, by omega⟩ _ _ _ a r _ hj (fun k => rows_apply m c t a k) (fun k => ?_) fun k => ?_
  · have q := big_even_apply m c ⟨2 * (t.val / 2), hlt⟩ (by dsimp only; omega) r k (by dsimp only; omega)
    dsimp only at q
    rw [hd] at q
    exact q
  · have q := par_even_apply m c ⟨2 * (t.val / 2), hlt⟩ (by dsimp only; omega) r k
    dsimp only at q
    rw [hd] at q
    exact q

/-! ## The result array -/

/-- After the run, the result array holds the tree's values. -/
theorem array_eq (c : Dev nD) (hX : TreeSpec.Finite (m ((c : Thread nD τ).loc main_arg0) : Vec Ideal S1024x64 .f32))
    (hA : TreeSpec.Finite (m ((c : Thread nD τ).loc main_arg1) : Vec Ideal S16383x64 .f32)) :
    (dats m 0 c).arrAt 4 cfg0.N = (fun i : S1024x32767.Idx =>
      TreeSpec.tree (m ((c : Thread nD τ).loc main_arg0)) (m ((c : Thread nD τ).loc main_arg1)) (i 0) (i 1)) := by
  refine (dats m 0 c).arrAt_eq_of_covers 4 _ (by decide +kernel) fun t hf y => ?_
  have hi := (index_eq t).2.2.2.2.2
  have e0 : ((((cfg0.win 4).blk t).view.emb y) (0 : Fin 2) : ℕ) = t.val % 2 * 512 + (y (0 : Fin 2)).val := by
    blk_simp [hi]
  have e1 : ((((cfg0.win 4).blk t).view.emb y) (1 : Fin 2) : ℕ) = t.val / 2 * 4096 + (y (1 : Fin 2)).val := by
    blk_simp [hi]
  have hj : ((((cfg0.win 4).blk t).view.emb y) (1 : Fin 2) : ℕ) < 32767 := ((((cfg0.win 4).blk t).view.emb y) (1 : Fin 2)).isLt
  have q := out_tree m c hX hA t ((cfg0.win 4).xinj (cfg0.grid.coords t) y (0 : Fin 2)) ((cfg0.win 4).xinj (cfg0.grid.coords t) y (1 : Fin 2))
    (by show 4096 * (t.val / 2) + (y (1 : Fin 2)).val < 32767; omega)
  rw [after0_4]
  blk_simp [hi]
  refine Eq.trans (congrArg (outsAt0 m c t.val t.isLt).1 (eq_ix2 _)) (q.trans ?_)
  refine congrArg₂ (TreeSpec.tree _ _) (Fin.ext ?_) (Fin.ext ?_)
  · exact Eq.trans (by show 512 * (t.val % 2) + (y (0 : Fin 2)).val = t.val % 2 * 512 + (y (0 : Fin 2)).val; omega) e0.symm
  · exact Eq.trans (by show 4096 * (t.val / 2) + (y (1 : Fin 2)).val = t.val / 2 * 4096 + (y (1 : Fin 2)).val; omega) e1.symm

end Cert.KernelIdeal.Tree

end
-- ==== Proof.Columns.lean ====
/- A gather and a setting scatter by columns of a matrix, one index word per column, read at an index. -/
module

public import Idealize.ShloMosaic.Lib.Pointwise
public import Idealize.ShloMosaic.Lib.Routing.OpsSet
public import Idealize.ShloMosaic.Lib.ReduceAll

@[expose] public section

noncomputable section

namespace Cert.Columns

open Idealize.ShloMosaic

variable {α : Type} {R C N : ℕ}

/-- The dimension numbers of a take of `N` columns of an `[R, C]` matrix. -/
abbrev takeCols (wf : GatherDims.WF ⟨2, ![R, C]⟩ ⟨2, ![N, 1]⟩ ⟨2, ![R, N]⟩ [0] [1] [] [1] [] 1 ![R, 1]) :
    GatherDims ⟨2, ![R, C]⟩ ⟨2, ![N, 1]⟩ ⟨2, ![R, N]⟩ where
  offsetDims := [0]
  collapsedSliceDims := [1]
  operandBatchingDims := []
  startIndicesBatchingDims := []
  startIndexMap := [1]
  indexVectorDim := 1
  sliceSizes := ![R, 1]
  wf := wf

/-- The take read at an index: where the index word of column `n` is the number `j`, the entry is the matrix's in column `j`. -/
theorem gather_cols (wf : GatherDims.WF ⟨2, ![R, C]⟩ ⟨2, ![N, 1]⟩ ⟨2, ![R, N]⟩ [0] [1] [] [1] [] 1 ![R, 1])
    (x : (⟨2, ![R, C]⟩ : Shape).Idx → α) (idx : IVec ⟨2, ![N, 1]⟩ 32) (b : Fin R) (n : Fin N) (j : Fin C)
    (hj : (idx (ix2 n 0)).toInt = (j.val : ℤ)) : Host.gather (takeCols wf) x idx (ix2 b n) = x (ix2 b j) := by
  unfold Host.gather
  congr 1
  funext a
  refine Fin.ext ?_
  show (takeCols wf).start (ix2 b n) idx a + (takeCols wf).batchCoord (ix2 b n) a + (takeCols wf).offCoord (ix2 b n) a = _
  rw [GatherDims.batchCoord_eq_zero _ _ _ List.not_mem_nil]
  have h01 : a = 0 ∨ a = 1 := by
    match a with
    | ⟨0, _⟩ => exact Or.inl rfl
    | ⟨1, _⟩ => exact Or.inr rfl
  rcases h01 with rfl | rfl
  · unfold GatherDims.start GatherDims.offCoord
    rw [dif_neg (by simp), dif_pos ((GatherDims.mem_sKept _ _).mpr (by simp))]
    show 0 + 0 + b.val = b.val
    omega
  · rw [GatherDims.offCoord_eq_zero _ _ _ (fun h => ((GatherDims.mem_sKept _ _).mp h).1 (List.mem_singleton.mpr rfl))]
    unfold GatherDims.start
    rw [dif_pos (show (1 : Fin 2) ∈ (takeCols wf).startIndexMap from List.mem_singleton.mpr rfl)]
    have hsi : (takeCols wf).siIdx (ix2 b n) ⟨List.idxOf (1 : Fin 2) (takeCols wf).startIndexMap,
        List.idxOf_lt_length_iff.2 (List.mem_singleton.mpr rfl)⟩ = ix2 n 0 := by
      funext c
      refine Fin.ext ?_
      match c with
      | ⟨0, _⟩ => rfl
      | ⟨1, _⟩ => rfl
    show min (idx ((takeCols wf).siIdx (ix2 b n) ⟨List.idxOf (1 : Fin 2) (takeCols wf).startIndexMap, _⟩)).toInt.toNat (C - 1) + 0 + 0 = j.val
    rw [hsi, hj]
    have := j.isLt
    omega

/-- The dimension numbers of a scatter of `N` columns into an `[R, C]` matrix. -/
abbrev setCols (wf : ScatterDims.WF ⟨2, ![R, C]⟩ ⟨2, ![N, 1]⟩ ⟨2, ![R, N]⟩ [0] [1] [1] 1) :
    ScatterDims ⟨2, ![R, C]⟩ ⟨2, ![N, 1]⟩ ⟨2, ![R, N]⟩ where
  updateWindowDims := [0]
  insertedWindowDims := [1]
  scatterDimsToOperandDims := [1]
  indexVectorDim := 1
  wf := wf

/-- Where an update lands: in its own row, in the column that its index word names. -/
theorem lands_cols (wf : ScatterDims.WF ⟨2, ![R, C]⟩ ⟨2, ![N, 1]⟩ ⟨2, ![R, N]⟩ [0] [1] [1] 1) (idx : IVec ⟨2, ![N, 1]⟩ 32)
    (a : Fin R) (n : Fin N) (b : Fin R) (j : Fin C) :
    (setCols wf).resultIdx? (ix2 a n) idx = some (ix2 b j) ↔ a = b ∧ (idx (ix2 n 0)).toInt = (j.val : ℤ) := by
  have s0 : (setCols wf).start (ix2 a n) idx 0 = 0 := by
    unfold ScatterDims.start
    rw [dif_neg (by simp)]
  have s1 : (setCols wf).start (ix2 a n) idx 1 = (idx (ix2 n 0)).toInt := by
    unfold ScatterDims.start
    rw [dif_pos (List.mem_singleton.mpr rfl)]
    refine congrArg (fun i => (idx i).toInt) (funext fun c => Fin.ext ?_)
    match c with
    | ⟨0, _⟩ => rfl
    | ⟨1, _⟩ => rfl
  have w0 : (setCols wf).window (ix2 a n) 0 = a.val := by
    unfold ScatterDims.window
    rw [dif_pos (show (0 : Fin 2) ∈ (setCols wf).sKept from List.mem_filter.2 ⟨List.mem_finRange _, by simp⟩)]
    rfl
  have w1 : (setCols wf).window (ix2 a n) 1 = 0 := by
    unfold ScatterDims.window
    rw [dif_neg fun h => (of_decide_eq_true (List.mem_filter.1 h).2) (by simp)]
  rw [ix2_eq_valueIdx b j, Routing.resultIdx?_ix2, s0, s1, w0, w1, Fin.ext_iff]
  omega

/-- The scatter that sets, read in a column that one index word names: the update of that column. -/
theorem set_cols_hit (wf : ScatterDims.WF ⟨2, ![R, C]⟩ ⟨2, ![N, 1]⟩ ⟨2, ![R, N]⟩ [0] [1] [1] 1) (x : (⟨2, ![R, C]⟩ : Shape).Idx → α)
    (idx : IVec ⟨2, ![N, 1]⟩ 32) (u : (⟨2, ![R, N]⟩ : Shape).Idx → α) (b : Fin R) (j : Fin C) (n : Fin N)
    (hn : ∀ n' : Fin N, (idx (ix2 n' 0)).toInt = (j.val : ℤ) ↔ n' = n) :
    Host.scatter (setCols wf) (fun _ v => v) x idx u (ix2 b j) = u (ix2 b n) := by
  refine Routing.scatter_set_hit _ x idx u _ _ (fun k hk => ?_) (ix2 b n) ((lands_cols wf idx b n b j).2 ⟨rfl, (hn n).2 rfl⟩)
  rw [eq_ix2 k] at hk ⊢
  obtain ⟨h0, h1⟩ := (lands_cols wf idx _ _ b j).1 hk
  rw [h0, (hn _).1 h1]

/-- The same read in a column that no index word names: the matrix's own entry. -/
theorem set_cols_miss (wf : ScatterDims.WF ⟨2, ![R, C]⟩ ⟨2, ![N, 1]⟩ ⟨2, ![R, N]⟩ [0] [1] [1] 1) (x : (⟨2, ![R, C]⟩ : Shape).Idx → α)
    (idx : IVec ⟨2, ![N, 1]⟩ 32) (u : (⟨2, ![R, N]⟩ : Shape).Idx → α) (b : Fin R) (j : Fin C)
    (hn : ∀ n : Fin N, (idx (ix2 n 0)).toInt ≠ (j.val : ℤ)) :
    Host.scatter (setCols wf) (fun _ v => v) x idx u (ix2 b j) = x (ix2 b j) := by
  refine Routing.scatter_set_miss _ x idx u _ fun k hk => ?_
  rw [eq_ix2 k] at hk
  exact hn _ ((lands_cols wf idx _ _ b j).1 hk).2

end Cert.Columns

end
-- ==== Proof.Pre.lean ====
/- The precondition read back: what a launch that meets it knows of its arguments. -/
module

public import proofs.«01_k».proof.Pre_finite_heap
public import proofs.«01_k».proof.Proof.Gen.Pre_finite_heap
public import proofs.«01_k».proof.Proof.Spec
public import Idealize.ShloMosaic.Lib.ReduceAll
public import Idealize.ShloMosaic.Lib.Pointwise

@[expose] public section

noncomputable section

namespace Cert.TreeSpec

open Idealize.ShloMosaic Cert.Pre_finite_heap

/-- The tree is the full binary tree in heap layout: split node `i` is node `i`, its children are nodes `2i + 1` and `2i + 2`. -/
structure Heap (s l r : IVec S16383 32) : Prop where
  split : ∀ i : Fin 16383, s (ix1 i) = BitVec.ofNat 32 i.val
  left : ∀ i : Fin 16383, l (ix1 i) = BitVec.ofNat 32 (2 * i.val + 1)
  right : ∀ i : Fin 16383, r (ix1 i) = BitVec.ofNat 32 (2 * i.val + 2)

/-- An extended real whose absolute value is less than infinity is a real number. -/
theorem real_of_abs_lt (x : EReal) (h : (FloatOps.cmpf (F := Ideal) .olt (FloatOps.hostAbsf (F := Ideal) (φ := .f32) x)
    (FloatOps.ofBits (F := Ideal) .f32 0x7F800000#32)) = 1#1) : ∃ r : ℝ, x = (r : EReal) := by
  have hlt : max x (-x) < (⊤ : EReal) := by
    refine lt_of_lt_of_le (b := Ideal.ofBits .f32 0x7F800000#32) ?_ le_top
    by_contra hn
    have h' : Ideal.cmp .olt (max x (-x)) (Ideal.ofBits .f32 0x7F800000#32) = 1#1 := h
    unfold Ideal.cmp at h'
    simp [hn] at h'
  rcases max_lt_iff.1 hlt with ⟨h1, h2⟩
  induction x with
  | bot => exact absurd h2 (by simp)
  | coe r => exact ⟨r, rfl⟩
  | top => exact absurd h1 (by simp)

/-- A launch that meets the precondition has the tree in heap layout, and only finite points and split vectors. -/
theorem of_pre (X : FVec Ideal S1024x64 .f32) (A : FVec Ideal S16383x64 .f32) (s l r : IVec S16383 32)
    (h : Cert.Pre_finite_heap.fn (F := Ideal) X A s l r = fun _ => 1#1) : Heap s l r ∧ Finite X ∧ Finite A := by
  have : Subsingleton S_.Idx := ⟨fun a b => funext fun k => k.elim0⟩
  have h0 := congrFun h (fun k => k.elim0)
  obtain ⟨h1, hA⟩ := IntOp.andi_eq_one.1 h0
  obtain ⟨hh, hX⟩ := IntOp.andi_eq_one.1 h1
  have hs : ∀ i : Fin 16383, _ := fun i => Host.reduce_andi_all _ _ _ _ _ hh (ix1 i)
  refine ⟨?_, fun i => real_of_abs_lt _ (Host.reduce_andi_all _ _ _ _ _ hX i), fun i => real_of_abs_lt _ (Host.reduce_andi_all _ _ _ _ _ hA i)⟩
  have hw : ∀ i : Fin 16383, s (ix1 i) = BitVec.ofNat 32 i.val ∧ l (ix1 i) = 2#32 * BitVec.ofNat 32 i.val + 1#32
      ∧ r (ix1 i) = 2#32 * BitVec.ofNat 32 i.val + 2#32 := fun i => by
    obtain ⟨h2, hr⟩ := IntOp.andi_eq_one.1 (hs i)
    obtain ⟨hs, hl⟩ := IntOp.andi_eq_one.1 h2
    exact ⟨IntOp.cmpi_eq.1 hs, IntOp.cmpi_eq.1 hl, IntOp.cmpi_eq.1 hr⟩
  refine ⟨fun i => (hw i).1, fun i => (hw i).2.1.trans ?_, fun i => (hw i).2.2.trans ?_⟩
  · rw [← BitVec.ofNat_mul, ← BitVec.ofNat_add]
  · rw [← BitVec.ofNat_mul, ← BitVec.ofNat_add]

end Cert.TreeSpec

end
-- ==== Proof.RefValue.lean ====
/- The reference's result after the run, index by index: the tree's values, when the tree is in heap layout. -/
module

public import proofs.«01_k».proof.Proof.Gen.ReferenceIdeal.Run
public import proofs.«01_k».proof.Proof.Columns
public import proofs.«01_k».proof.Proof.Pre
public import Idealize.ShloMosaic.Lib.Tactic
public import Idealize.ShloMosaic.Lib.StackMember

@[expose] public section

set_option maxRecDepth 16384

noncomputable section

namespace Cert.ReferenceIdeal.Tree

open Cert.ReferenceIdeal Cert.ReferenceIdeal.Gen Idealize.ShloMosaic Idealize.ShloMosaic.TcCoe Idealize.SL.Sem

/-! ## The reference's steps, named -/

/-- A node list as a column of index words, the negative ones moved up by `n`. -/
def nodes (n : BitVec 32) (x : IVec S16383 32) : IVec S16383x1 32 :=
  broadcastInDim S16383x1 ![0] bcast_S16383_S16383x1_0
    (select (cmpi .slt x (broadcastInDim S16383 ![] bcast_S_S16383 (constantI S_ 32 0#32)))
      (addi x (broadcastInDim S16383 ![] bcast_S_S16383 (constantI S_ 32 n))) x)

/-- Which index words lie between zero and `hi`. -/
def inside (hi : BitVec 32) (ix : IVec S16383x1 32) : IVec S16383 1 :=
  Host.reduce IntOp.andi
    (andi (cmpi .sge ix (broadcastInDim S16383x1 ![] bcast_S_S16383x1 (constantI S_ 32 0#32)))
      (cmpi .sle ix (broadcastInDim S16383x1 ![0, 1] bcast_S1x1_S16383x1_0_1 (broadcastInDim S1x1 ![1] bcast_S1_S1x1_1 (constantI S1 32 hi)))))
    (constantI S_ 1 1#1) reducesTo_S16383x1_S16383_d1 h_S_

/-- The taken columns where their index word is inside, a fill elsewhere. -/
def masked (hi : BitVec 32) (ix : IVec S16383x1 32) (g : FVec Ideal S1024x16383 .f32) : FVec Ideal S1024x16383 .f32 :=
  select (broadcastInDim S1024x16383 ![1] bcast_S16383_S1024x16383_1 (inside hi ix)) g
    (broadcastInDim S1024x16383 ![] bcast_S_S1024x16383 (constant (F := Ideal) S_ .f32 0x7FC00000#32))

/-- The values of the listed nodes. -/
def takeNodes (q : FVec Ideal S1024x32767 .f32) (s : IVec S16383 32) : FVec Ideal S1024x16383 .f32 :=
  masked 32766#32 (nodes 32767#32 s) (Host.gather gather_S1024x32767_S16383x1_S1024x16383_0_1_n_n_1_1_10241 q (nodes 32767#32 s))

/-- Every point's score at every listed split. -/
def scores (X : FVec Ideal S1024x64 .f32) (A : FVec Ideal S16383x64 .f32) (s : IVec S16383 32) : FVec Ideal S1024x16383 .f32 :=
  masked 16382#32 (nodes 16383#32 s) (Host.gather gather_S1024x16383_S16383x1_S1024x16383_0_1_n_n_1_1_10241
    (Host.dotGeneral dot_S1024x64_S64x16383_S1024x16383_1_0_0_1_n_n none X (transpose S64x16383 [1, 0] A transposes_S16383x64_S64x16383_1_0))
    (nodes 16383#32 s))

/-- The node values before the tree is walked: all ones. -/
def ones : FVec Ideal S1024x32767 .f32 := broadcastInDim S1024x32767 ![] bcast_S_S1024x32767 (constant (F := Ideal) S_ .f32 0x3F800000#32)

/-- The node values once the left children are set. -/
def lefts (X : FVec Ideal S1024x64 .f32) (A : FVec Ideal S16383x64 .f32) (s l : IVec S16383 32) : FVec Ideal S1024x32767 .f32 :=
  Host.scatter scatter_S1024x32767_S16383x1_S1024x16383_0_1_1_1 (fun _ b => b) ones (nodes 32767#32 l)
    (minimumf (takeNodes ones s) (scores X A s))

/-- The node values once the right children are set too. -/
def rights (X : FVec Ideal S1024x64 .f32) (A : FVec Ideal S16383x64 .f32) (s l r : IVec S16383 32) : FVec Ideal S1024x32767 .f32 :=
  Host.scatter scatter_S1024x32767_S16383x1_S1024x16383_0_1_1_1 (fun _ b => b) (lefts X A s l) (nodes 32767#32 r)
    (minimumf (takeNodes (lefts X A s l) s) (Host.negf (scores X A s)))

/-- The reference's result is its node values clamped. -/
theorem res_eq (m : (ℓ : Loc nD τ sig) → Buf (Elt Ideal) ℓ) (c : Dev nD) :
    (Value.res_out0 m c : FVec Ideal S1024x32767 .f32) = minimumf (broadcastInDim S1024x32767 ![] bcast_S_S1024x32767 (id (constant (F := Ideal) S_ .f32 0x3F800000#32)))
      (maximumf (broadcastInDim S1024x32767 ![] bcast_S_S1024x32767 (id (constant (F := Ideal) S_ .f32 0x00000000#32)))
        (rights (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)))) := by
  unfold Value.res_out0 Value.res_main_v23 rights lefts scores takeNodes masked inside nodes ones
  rfl

/-! ## The steps at an index -/

/-- A word that holds a number below two to the thirty-first reads as that number, signed. -/
theorem toInt_small (k : ℕ) (hk : k < 2 ^ 31) : (BitVec.ofNat 32 k).toInt = (k : ℤ) := StableHlo.Predicate.toInt_ofNat_small _ hk

/-- A node's index word is the node, where that is a small number. -/
theorem nodes_apply (n : BitVec 32) (x : IVec S16383 32) (i : Fin 16383) (k : ℕ) (hk : k < 2 ^ 31) (hx : x (ix1 i) = BitVec.ofNat 32 k) :
    (nodes n x (ix2 i 0)).toInt = (k : ℤ) := by
  have e : nodes n x (ix2 i 0) = Scalar.select (IntOp.cmpi .slt (x (ix1 i)) 0#32) (IntOp.addi (x (ix1 i)) n) (x (ix1 i)) := by
    pointwise [nodes]
  rw [e, hx, Routing.wrap_of_lt _ _ (by rw [BitVec.toNat_ofNat]; omega), toInt_small k hk]

/-- Where every index word is inside, the fill is not seen. -/
theorem masked_apply (hi : BitVec 32) (ix : IVec S16383x1 32) (g : FVec Ideal S1024x16383 .f32)
    (h : ∀ i : Fin 16383, 0 ≤ (ix (ix2 i 0)).toInt ∧ (ix (ix2 i 0)).toInt ≤ hi.toInt) (b : Fin 1024) (i : Fin 16383) :
    masked hi ix g (ix2 b i) = g (ix2 b i) := by
  have e : inside hi ix (ix1 i) = 1#1 := Host.reduce_andi_one _ _ _ _ _ rfl fun j => by
    rw [eq_ix2 j]
    obtain ⟨h0, h1⟩ := h (j 0)
    have hj : j 1 = (0 : Fin 1) := Subsingleton.elim (α := Fin 1) _ _
    rw [hj]
    refine IntOp.andi_eq_one.2 ⟨IntOp.cmpi_sge.2 ?_, IntOp.cmpi_sle.2 ?_⟩
    · exact h0
    · exact h1
  have e' : masked hi ix g (ix2 b i) = Scalar.select (inside hi ix (ix1 i)) (g (ix2 b i)) (FloatOps.ofBits (F := Ideal) .f32 0x7FC00000#32) := by
    pointwise [masked]
  rw [e', e]
  rfl

/-- The values of the split nodes, in heap layout: the first columns. -/
theorem takeNodes_apply (q : FVec Ideal S1024x32767 .f32) (s : IVec S16383 32) (hs : ∀ i : Fin 16383, s (ix1 i) = BitVec.ofNat 32 i.val)
    (b : Fin 1024) (i : Fin 16383) : takeNodes q s (ix2 b i) = q (ix2 b ⟨i.val, by omega⟩) := by
  have hn : ∀ i : Fin 16383, (nodes 32767#32 s (ix2 i 0)).toInt = (i.val : ℤ) := fun i => nodes_apply _ s i _ (by omega) (hs i)
  unfold takeNodes
  rw [masked_apply _ _ _ (fun i => by rw [hn i, toInt_small 32766 (by omega)]; omega)]
  exact Columns.gather_cols gather_S1024x32767_S16383x1_S1024x16383_0_1_n_n_1_1_10241_wf q _ b i ⟨i.val, by omega⟩ (hn i)

/-- The scores at the split nodes, in heap layout: the inner products. -/
theorem scores_apply (X : FVec Ideal S1024x64 .f32) (A : FVec Ideal S16383x64 .f32) (s : IVec S16383 32)
    (hs : ∀ i : Fin 16383, s (ix1 i) = BitVec.ofNat 32 i.val) (b : Fin 1024) (i : Fin 16383) :
    scores X A s (ix2 b i) = TreeSpec.score X A b i := by
  have hn : ∀ i : Fin 16383, (nodes 16383#32 s (ix2 i 0)).toInt = (i.val : ℤ) := fun i => nodes_apply _ s i _ (by omega) (hs i)
  unfold scores
  rw [masked_apply _ _ _ (fun i => by rw [hn i, toInt_small 16382 (by omega)]; omega)]
  refine (Columns.gather_cols gather_S1024x16383_S16383x1_S1024x16383_0_1_n_n_1_1_10241_wf _ _ b i i (hn i)).trans ?_
  pointwise [TreeSpec.score]

/-- One, as a float constant. -/
theorem ones_apply (b : Fin 1024) (j : Fin 32767) : ones (ix2 b j) = 1 := by
  pointwise [ones]

/-- Once the left children are set: an odd column holds the smaller of one and the score of its split, an even one still one. -/
theorem lefts_apply (X : FVec Ideal S1024x64 .f32) (A : FVec Ideal S16383x64 .f32) (s l : IVec S16383 32)
    (hs : ∀ i : Fin 16383, s (ix1 i) = BitVec.ofNat 32 i.val) (hl : ∀ i : Fin 16383, l (ix1 i) = BitVec.ofNat 32 (2 * i.val + 1))
    (b : Fin 1024) (j : Fin 32767) :
    lefts X A s l (ix2 b j) = if h : j.val % 2 = 1 then min 1 (TreeSpec.score X A b ⟨(j.val - 1) / 2, by omega⟩) else 1 := by
  have hn : ∀ i : Fin 16383, (nodes 32767#32 l (ix2 i 0)).toInt = ((2 * i.val + 1 : ℕ) : ℤ) := fun i => nodes_apply _ l i _ (by omega) (hl i)
  unfold lefts
  by_cases h : j.val % 2 = 1
  · rw [dif_pos h]
    refine (Columns.set_cols_hit scatter_S1024x32767_S16383x1_S1024x16383_0_1_1_1_wf _ _ _ b j ⟨(j.val - 1) / 2, by omega⟩ fun n => ?_).trans ?_
    · rw [hn, Fin.ext_iff]
      dsimp only
      omega
    · show min (takeNodes ones s _) (scores X A s _) = _
      rw [takeNodes_apply _ _ hs, ones_apply, scores_apply _ _ _ hs]
  · rw [dif_neg h]
    refine (Columns.set_cols_miss scatter_S1024x32767_S16383x1_S1024x16383_0_1_1_1_wf _ _ _ b j fun n => ?_).trans (ones_apply b j)
    rw [hn]
    omega

/-- Once the right children are set: an even column but the first holds the smaller of its parent's value and the score of
    its split negated, every other column what it held before. -/
theorem rights_apply (X : FVec Ideal S1024x64 .f32) (A : FVec Ideal S16383x64 .f32) (s l r : IVec S16383 32) (H : TreeSpec.Heap s l r)
    (b : Fin 1024) (j : Fin 32767) :
    rights X A s l r (ix2 b j)
      = if h : j.val % 2 = 0 ∧ j.val ≠ 0 then
          min (lefts X A s l (ix2 b ⟨j.val / 2 - 1, by omega⟩)) (-TreeSpec.score X A b ⟨j.val / 2 - 1, by omega⟩)
        else lefts X A s l (ix2 b j) := by
  have hn : ∀ i : Fin 16383, (nodes 32767#32 r (ix2 i 0)).toInt = ((2 * i.val + 2 : ℕ) : ℤ) := fun i => nodes_apply _ r i _ (by omega) (H.right i)
  unfold rights
  by_cases h : j.val % 2 = 0 ∧ j.val ≠ 0
  · rw [dif_pos h]
    refine (Columns.set_cols_hit scatter_S1024x32767_S16383x1_S1024x16383_0_1_1_1_wf _ _ _ b j ⟨j.val / 2 - 1, by omega⟩ fun n => ?_).trans ?_
    · rw [hn, Fin.ext_iff]
      dsimp only
      omega
    · show min (takeNodes (lefts X A s l) s _) (-scores X A s _) = _
      rw [takeNodes_apply _ _ H.split, scores_apply _ _ _ H.split]
  · rw [dif_neg h]
    refine Columns.set_cols_miss scatter_S1024x32767_S16383x1_S1024x16383_0_1_1_1_wf _ _ _ b j fun n => ?_
    rw [hn]
    omega

/-- The reference's clamp at an index. -/
theorem clip_apply (v : FVec Ideal S1024x32767 .f32) (b : Fin 1024) (j : Fin 32767) :
    minimumf (broadcastInDim S1024x32767 ![] bcast_S_S1024x32767 (id (constant (F := Ideal) S_ .f32 0x3F800000#32)))
      (maximumf (broadcastInDim S1024x32767 ![] bcast_S_S1024x32767 (id (constant (F := Ideal) S_ .f32 0x00000000#32))) v) (ix2 b j)
      = TreeSpec.clamp (v (ix2 b j)) := by
  simp only [id_eq]
  pointwise [TreeSpec.clamp]

/-- The reference's node values, clamped, are the tree's. -/
theorem clamp_rights (X : FVec Ideal S1024x64 .f32) (A : FVec Ideal S16383x64 .f32) (s l r : IVec S16383 32) (H : TreeSpec.Heap s l r)
    (b : Fin 1024) (j : Fin 32767) : TreeSpec.clamp (rights X A s l r (ix2 b j)) = TreeSpec.tree X A b j := by
  rw [rights_apply X A s l r H]
  unfold TreeSpec.tree
  by_cases h0 : j.val = 0
  · rw [dif_neg (by omega), dif_pos h0, lefts_apply X A s l H.split H.left, dif_neg (by omega), TreeSpec.clamp_one]
  rw [dif_neg h0]
  by_cases h2 : j.val % 2 = 1
  · rw [dif_neg (by omega), if_pos h2, lefts_apply X A s l H.split H.left, dif_pos h2, TreeSpec.clamp_min_one]
  rw [dif_pos ⟨by omega, h0⟩, if_neg h2, lefts_apply X A s l H.split H.left]
  by_cases h4 : j.val % 4 = 0
  · rw [dif_pos (show (j.val / 2 - 1) % 2 = 1 by omega), if_pos h4, TreeSpec.clamp_min_one_min]
    exact congrArg (fun i => TreeSpec.clamp (min (TreeSpec.score X A b i) _)) (Fin.ext (by show (j.val / 2 - 1 - 1) / 2 = j.val / 4 - 1; omega))
  · rw [dif_neg (show ¬(j.val / 2 - 1) % 2 = 1 by omega), if_neg h4, TreeSpec.clamp_min_one]

/-- The reference's result holds the tree's values. -/
theorem res_apply (m : (ℓ : Loc nD τ sig) → Buf (Elt Ideal) ℓ) (c : Dev nD)
    (H : TreeSpec.Heap (m ((c.tc : Thread nD τ).loc main_arg2)) (m ((c.tc : Thread nD τ).loc main_arg3)) (m ((c.tc : Thread nD τ).loc main_arg4))) :
    (Value.res_out0 m c : FVec Ideal S1024x32767 .f32) = (fun i : S1024x32767.Idx =>
      TreeSpec.tree (m ((c.tc : Thread nD τ).loc main_arg0)) (m ((c.tc : Thread nD τ).loc main_arg1)) (i 0) (i 1)) := by
  rw [res_eq]
  funext i
  obtain ⟨b, j, rfl⟩ : ∃ (b : Fin 1024) (j : Fin 32767), i = ix2 b j := ⟨i 0, i 1, eq_ix2 i⟩
  exact (clip_apply _ b j).trans (clamp_rights _ _ _ _ _ H b j)

end Cert.ReferenceIdeal.Tree

end
-- ==== Proof.lean ====
/- The claims about the tree kernel, put together from its run, the reference's run and the two programs' values. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal.Run
public import proofs.«01_k».proof.Proof.Gen.ReferenceIdeal
public import proofs.«01_k».proof.Proof.Gen.Pre_finite_heap
public import proofs.«01_k».proof.Proof.KernelValue
public import proofs.«01_k».proof.Proof.RefValue
public import Idealize.ShloMosaic.Lib.Claim
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- The reference's run ends with its arguments as they were and, as the program has no semaphore, with every counter at zero. -/
theorem reference_frame : Cert.quiescent_ReferenceIdeal (hReferenceIdeal := Cert.ReferenceIdeal.Gen.facts) := fun m g _ =>
  θ_run_mono (Cert.ReferenceIdeal.Value.run m g) fun r h => ⟨fun c => (h c).2, sem_eq_zero_of_no_sems rfl r.2⟩

/-- From equal arguments that meet the precondition, the kernel and the reference both end with the tree's values. -/
theorem values : Cert.algebraic_KernelIdeal_ReferenceIdeal_pre_finite_heap (hKernelIdeal := Cert.KernelIdeal.Gen.facts)
    (hReferenceIdeal := Cert.ReferenceIdeal.Gen.facts) (hPre_finite_heap := Cert.Pre_finite_heap.Gen.facts) := by
  intro m g m' g' hpre hargs
  refine ⟨fun c => (fun i : Cert.KernelIdeal.S1024x32767.Idx => Cert.TreeSpec.tree
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1)) (i 0) (i 1)), ?_, ?_⟩
  · refine θ_run_mono (Cert.KernelIdeal.Value.run_blocks m g) fun r h c => ⟨(h c).1.trans ?_, (h c).2⟩
    obtain ⟨-, hX, hA⟩ := Cert.TreeSpec.of_pre _ _ _ _ _ (hpre c)
    exact Cert.KernelIdeal.Tree.array_eq m c hX hA
  · refine θ_run_mono (Cert.ReferenceIdeal.Value.run m' g') fun r h c => ⟨(h c).1.trans ?_, (h c).2⟩
    obtain ⟨H, -, -⟩ := Cert.TreeSpec.of_pre _ _ _ _ _ (hpre c)
    obtain ⟨e0, e1, e2, e3, e4⟩ := hargs c
    rw [← e2, ← e3, ← e4] at H
    refine (Cert.ReferenceIdeal.Tree.res_apply m' c H).trans ?_
    rw [e0, e1]

/-- Every claim about the kernel and its reference. -/
theorem claim : Cert.Claim :=
  ⟨Cert.Kernel.Gen.facts, Cert.KernelIdeal.Gen.facts, Cert.ReferenceIdeal.Gen.facts, Cert.Pre_finite_heap.Gen.facts,
    fun m g _ => Cert.Kernel.Gen.frame m g,
    fun m g _ => Cert.KernelIdeal.Gen.frame m g,
    fun m g _ => Cert.KernelIdeal.Gen.frame m g,
    reference_frame, fun m g _ => reference_frame m g trivial, trivial, values⟩

end Cert.Proof

end
